-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x3x224x224 : Shape := ⟨4, ![4, 3, 224, 224]⟩
abbrev S4x196x224x224 : Shape := ⟨4, ![4, 196, 224, 224]⟩
abbrev S56x3 : Shape := ⟨2, ![56, 3]⟩
abbrev S56 : Shape := ⟨1, ![56]⟩
abbrev S_ : Shape := ⟨0, ![]⟩

class Facts : Prop where
  bcast_S_S4x3x224x224 : S_.BroadcastsInDim S4x3x224x224 (![] : Fin 0 → Fin S4x3x224x224.rank)
  reducesTo_S4x3x224x224_S_d0_1_2_3 : S4x3x224x224.ReducesTo [0, 1, 2, 3] S_
  h_S_ : 0 < S_.numel
  bcast_S_S56x3 : S_.BroadcastsInDim S56x3 (![] : Fin 0 → Fin S56x3.rank)
  reducesTo_S56x3_S_d0_1 : S56x3.ReducesTo [0, 1] S_

variable [Facts]

def fn {F : FTy → Type} [FloatOps F] (main_arg0 : FVec F S4x3x224x224 .f32) (main_arg1 : IVec S4x196x224x224 1) (main_arg2 : FVec F S56x3 .f32) (main_arg3 : FVec F S56 .f32) : IVec S_ 1 :=
  let main_v0 : FVec F S4x3x224x224 .f32 := Host.absf main_arg0
  let main_cst : FVec F S_ .f32 := constant S_ .f32 0x7F800000#32
  let main_v1 : FVec F S4x3x224x224 .f32 := broadcastInDim S4x3x224x224 ![] bcast_S_S4x3x224x224 main_cst
  let main_v2 : IVec S4x3x224x224 1 := cmpf .olt main_v0 main_v1
  let main_c : IVec S_ 1 := constantI S_ 1 1#1
  let main_v3 : IVec S_ 1 := (fun x v => Host.reduce IntOp.andi x v reducesTo_S4x3x224x224_S_d0_1_2_3 h_S_) main_v2 main_c
  let main_v4 : FVec F S56x3 .f32 := Host.absf main_arg2
  let main_cst_0 : FVec F S_ .f32 := constant S_ .f32 0x7F800000#32
  let main_v5 : FVec F S56x3 .f32 := broadcastInDim S56x3 ![] bcast_S_S56x3 main_cst_0
  let main_v6 : IVec S56x3 1 := cmpf .olt main_v4 main_v5
  let main_c_1 : IVec S_ 1 := constantI S_ 1 1#1
  let main_v7 : IVec S_ 1 := (fun x v => Host.reduce IntOp.andi x v reducesTo_S56x3_S_d0_1 h_S_) main_v6 main_c_1
  let main_v8 : IVec S_ 1 := andi main_v3 main_v7
  main_v8
-- ==== Kernel.lean ====
abbrev S4x3x224x224 : Shape := ⟨4, ![4, 3, 224, 224]⟩
abbrev S4x196x224x224 : Shape := ⟨4, ![4, 196, 224, 224]⟩
abbrev S56x3 : Shape := ⟨2, ![56, 3]⟩
abbrev S56 : Shape := ⟨1, ![56]⟩
abbrev S3x56 : Shape := ⟨2, ![3, 56]⟩
abbrev S1x56 : Shape := ⟨2, ![1, 56]⟩
abbrev S4x56 : Shape := ⟨2, ![4, 56]⟩
abbrev S4x196x56 : Shape := ⟨3, ![4, 196, 56]⟩
abbrev S1x196x224x224 : Shape := ⟨4, ![1, 196, 224, 224]⟩
abbrev S1x3x224x224 : Shape := ⟨4, ![1, 3, 224, 224]⟩
abbrev S1x196x56 : Shape := ⟨3, ![1, 196, 56]⟩
abbrev S196x4 : Shape := ⟨2, ![196, 4]⟩
abbrev S196x224x224 : Shape := ⟨3, ![196, 224, 224]⟩
abbrev S196x50176 : Shape := ⟨2, ![196, 50176]⟩
abbrev S3x224x224 : Shape := ⟨3, ![3, 224, 224]⟩
abbrev S3x50176 : Shape := ⟨2, ![3, 50176]⟩
abbrev S1x50176 : Shape := ⟨2, ![1, 50176]⟩
abbrev S4x50176 : Shape := ⟨2, ![4, 50176]⟩
abbrev S196x1 : Shape := ⟨2, ![196, 1]⟩
abbrev S196x56 : Shape := ⟨2, ![196, 56]⟩

abbrev nBuf : Space → Nat
  | .hbm => 9
  | .vmem => 8
  | .smem => 0
  | _ => 0

abbrev bufTy : (tb : Table) → Fin (tcTables nBuf tb) → BufTy
  | .hbm, ⟨0, _⟩ => ⟨S4x3x224x224, .f32⟩
  | .hbm, ⟨1, _⟩ => ⟨S4x196x224x224, .i1⟩
  | .hbm, ⟨2, _⟩ => ⟨S56x3, .f32⟩
  | .hbm, ⟨3, _⟩ => ⟨S56, .f32⟩
  | .hbm, ⟨4, _⟩ => ⟨S3x56, .f32⟩
  | .hbm, ⟨5, _⟩ => ⟨S1x56, .f32⟩
  | .hbm, ⟨6, _⟩ => ⟨S4x56, .f32⟩
  | .hbm, ⟨7, _⟩ => ⟨S4x196x224x224, .i8⟩
  | .hbm, ⟨8, _⟩ => ⟨S4x196x56, .f32⟩
  | .local _ .vmem, ⟨0, _⟩ => ⟨S1x196x224x224, .i8⟩
  | .local _ .vmem, ⟨1, _⟩ => ⟨S1x196x224x224, .i8⟩
  | .local _ .vmem, ⟨2, _⟩ => ⟨S1x3x224x224, .f32⟩
  | .local _ .vmem, ⟨3, _⟩ => ⟨S1x3x224x224, .f32⟩
  | .local _ .vmem, ⟨4, _⟩ => ⟨S4x56, .f32⟩
  | .local _ .vmem, ⟨5, _⟩ => ⟨S1x196x56, .f32⟩
  | .local _ .vmem, ⟨6, _⟩ => ⟨S1x196x56, .f32⟩
  | .local _ .vmem, ⟨7, _⟩ => ⟨S196x4, .f32⟩
  | _, _ => ⟨S4x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_13 : BitVec 32 := 0#32
  let v18 : BitVec 1 := Scalar.cmpi .eq arg1 c0_i32_13
  let v19 : BitVec 32 := Scalar.extui v18
  let c0_i32_14 : BitVec 32 := 0#32
  let v20 : BitVec 1 := Scalar.cmpi .ne v19 c0_i32_14
  v20

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x196x224x224 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x196x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S4x3x224x224 : Shape := ⟨4, ![4, 3, 224, 224]⟩
abbrev S4x196x224x224 : Shape := ⟨4, ![4, 196, 224, 224]⟩
abbrev S56x3 : Shape := ⟨2, ![56, 3]⟩
abbrev S56 : Shape := ⟨1, ![56]⟩
abbrev S56x4x224x224 : Shape := ⟨4, ![56, 4, 224, 224]⟩
abbrev S4x56x224x224 : Shape := ⟨4, ![4, 56, 224, 224]⟩
abbrev S1x56x1x1 : Shape := ⟨4, ![1, 56, 1, 1]⟩
abbrev S4x196x56 : Shape := ⟨3, ![4, 196, 56]⟩
abbrev S_ : Shape := ⟨0, ![]⟩
abbrev S4x196 : Shape := ⟨2, ![4, 196]⟩
abbrev S4x196x1 : Shape := ⟨3, ![4, 196, 1]⟩

abbrev nBuf : Space → Nat
  | .hbm => 16
  | .vmem => 0
  | .smem => 0
  | _ => 0

abbrev bufTy : (tb : Table) → Fin (tcTables nBuf tb) → BufTy
  | .hbm, ⟨0, _⟩ => ⟨S4x3x224x224, .f32⟩
  | .hbm, ⟨1, _⟩ => ⟨S4x196x224x224, .i1⟩
  | .hbm, ⟨2, _⟩ => ⟨S56x3, .f32⟩
  | .hbm, ⟨3, _⟩ => ⟨S56, .f32⟩
  | .hbm, ⟨4, _⟩ => ⟨S56x4x224x224, .f32⟩
  | .hbm, ⟨5, _⟩ => ⟨S4x56x224x224, .f32⟩
  | .hbm, ⟨6, _⟩ => ⟨S1x56x1x1, .f32⟩
  | .hbm, ⟨7, _⟩ => ⟨S4x56x224x224, .f32⟩
  | .hbm, ⟨8, _⟩ => ⟨S4x56x224x224, .f32⟩
  | .hbm, ⟨9, _⟩ => ⟨S4x196x224x224, .f32⟩
  | .hbm, ⟨10, _⟩ => ⟨S4x196x56, .f32⟩
  | .hbm, ⟨11, _⟩ => ⟨S_, .f32⟩
  | .hbm, ⟨12, _⟩ => ⟨S4x196, .f32⟩
  | .hbm, ⟨13, _⟩ => ⟨S4x196x1, .f32⟩
  | .hbm, ⟨14, _⟩ => ⟨S4x196x56, .f32⟩
  | .hbm, ⟨15, _⟩ => ⟨S4x196x56, .f32⟩
  | _, _ => ⟨S4x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Precond.lean ====
/-
  THE PRECONDITION READ BACK. `finite` is the conjunction of two `jnp.all`s of `|x| < ∞`; where it holds, every entry of
  the image and of the weights is a real number.
-/
module

public import proofs.«01_k».proof.Defs
public import proofs.«01_k».proof.Proof.Gen.Pre_finite
public import Idealize.ShloMosaic.Lib.ReduceAll
public import Idealize.ShloMosaic.Lib.Pointwise

@[expose] public section

noncomputable section

namespace Cert.Pre_finite.Means

open Cert.Pre_finite Idealize.ShloMosaic

/-- An extended real whose absolute value is below the `f32` infinity is a real number. -/
theorem real_of_test (x : EReal)
    (h : BitVec.ofBool (decide (max x (-x) < Ideal.ofBits .f32 0x7F800000#32)) = 1#1) : ∃ r : ℝ, x = r := by
  have ht : Ideal.ofBits .f32 0x7F800000#32 = ⊤ := by simp [Ideal.ofBits, Ideal.ieee]
  rw [ht] at h
  have hlt : max x (-x) < ⊤ := by
    by_contra hn
    simp [hn] at h
  induction x with
  | bot => simp at hlt
  | top => simp at hlt
  | coe r => exact ⟨r, rfl⟩

/-- Where the predicate holds, the image and the weights are real, entry by entry. -/
theorem fn_real (x : FVec Ideal S4x3x224x224 .f32) (y : IVec S4x196x224x224 1) (w : FVec Ideal S56x3 .f32) (b : FVec Ideal S56 .f32)
    (h : fn (F := Ideal) x y w b = fun _ => 1#1) : (∀ i, ∃ r : ℝ, x i = r) ∧ ∀ i, ∃ r : ℝ, w i = r := by
  have h0 := congrFun h ix0
  unfold fn at h0
  dsimp only at h0
  obtain ⟨h1, h2⟩ := IntOp.andi_eq_one.1 h0
  constructor <;> intro i
  · have hi := Host.reduce_andi_all _ _ _ _ _ h1 i
    pointwise at hi
    exact real_of_test _ hi
  · have hi := Host.reduce_andi_all _ _ _ _ _ h2 i
    pointwise at hi
    exact real_of_test _ hi

end Cert.Pre_finite.Means

end
-- ==== Proof.Algebra.lean ====
/-
  THE ALGEBRA, over the extended reals, of one entry of the result. `m` is a mask (a natural number at each pixel), `x`
  the three channels, `w` the three weights, `b` the bias. Channels and weights are real; the bias is any extended real.
-/
module

public import Mathlib.Data.EReal.Operations
public import Mathlib.Data.EReal.Inv
public import Mathlib.Algebra.BigOperators.Fin
public import Mathlib.Algebra.BigOperators.Ring.Finset
public import Mathlib.Logic.Equiv.Fin.Basic

@[expose] public section

namespace Cert.Means

/-- A finite sum of real numbers, taken in the extended reals, is the real sum. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A sum over 50176 pixels in reading order is the sum over the 224 rows of the sums over their 224 columns. -/
theorem sum_pixels {M : Type} [AddCommMonoid M] (f : Fin 224 → Fin 224 → M) :
    (∑ p : Fin 50176, f ⟨p.val / 224, by omega⟩ ⟨p.val % 224, by omega⟩) = ∑ i : Fin 224, ∑ j : Fin 224, f i j := by
  rw [← Fintype.sum_prod_type' (f := f)]
  exact Fintype.sum_equiv (finProdFinEquiv (m := 224) (n := 224)).symm _ _ fun p => rfl

/-- A constant factor on the right leaves a sum of natural numbers, whatever extended real it is. -/
theorem sum_nat_mul {ι : Type} (s : Finset ι) (m : ι → ℕ) (b : EReal) :
    (∑ i ∈ s, (((m i : ℝ)) : EReal) * b) = (∑ i ∈ s, ((m i : ℝ) : EReal)) * b := by
  classical
  induction s using Finset.induction_on with
  | empty => simp
  | insert a s ha ih =>
    rw [Finset.sum_insert ha, Finset.sum_insert ha, ih, EReal.right_distrib_of_nonneg]
    · exact EReal.coe_nonneg.2 (Nat.cast_nonneg _)
    · exact Finset.sum_nonneg fun i _ => EReal.coe_nonneg.2 (Nat.cast_nonneg _)

/-- A real factor on the left goes over a sum with a real term. -/
theorem coe_mul_add (m a : ℝ) (b : EReal) (hm : 0 ≤ m) : (m : EReal) * ((a : EReal) + b) = (m : EReal) * a + m * b := by
  rcases hm.eq_or_lt with rfl | hp
  · simp
  induction b with
  | bot => simp [EReal.coe_mul_bot_of_pos hp, ← EReal.coe_mul]
  | top => simp [EReal.coe_mul_top_of_pos hp, ← EReal.coe_mul, EReal.coe_add_top]
  | coe b => norm_cast; ring

/-- The masked sum of the projected and shifted pixels is the projection of the masked sums plus the pixel count times
    the shift. -/
theorem project_sum {ι : Type} (s : Finset ι) (m : ι → ℕ) (x : Fin 3 → ι → ℝ) (w : Fin 3 → ℝ) (b : EReal) :
    (∑ i ∈ s, (((m i : ℝ)) : EReal) * ((∑ k : Fin 3, (w k : EReal) * (x k i : EReal)) + b))
      = (∑ k : Fin 3, (∑ i ∈ s, ((m i : ℝ) : EReal) * (x k i : EReal)) * (w k : EReal)) + (∑ i ∈ s, ((m i : ℝ) : EReal)) * b := by
  simp only [← EReal.coe_mul, sum_coe]
  simp only [coe_mul_add _ _ b (Nat.cast_nonneg _), Finset.sum_add_distrib, sum_nat_mul, ← EReal.coe_mul, sum_coe]
  congr 2
  simp only [Finset.sum_mul, Finset.mul_sum]
  rw [Finset.sum_comm]
  exact Finset.sum_congr rfl fun k _ => Finset.sum_congr rfl fun i _ => by ring

end Cert.Means
-- ==== Proof.Block.lean ====
/-
  WHAT ONE GRID POINT LEAVES IN THE OUTPUT BLOCK. The body stores zeros in its accumulator, adds the product of the
  masks with the image's rows and a row of ones, and stores the quotient of two numbers made of that accumulator.
  `block_eq`: the block left is `k0_pay3 (k0_pay2 x0 x1 k0_pay1) x2` of the three input blocks.
-/
module

public import proofs.«01_k».proof.Proof.Gen.KernelIdeal.Value
public import Idealize.ShloMosaic.Lib.Pipeline.Value
public import Idealize.ShloMosaic.Lib.Pipeline.ValueKit.Acc
public import Idealize.ShloMosaic.Lib.Tactic

@[expose] public section

noncomputable section

namespace Cert.KernelIdeal.Means

open Cert.KernelIdeal Cert.KernelIdeal.Gen Idealize.ShloMosaic

variable {F : FTy → Type} [FloatOps F]

/-- Zero offsets on two, three and four axes, as the constant function. -/
theorem zeros2 : (![0, 0] : Fin 2 → Nat) = fun _ => 0 := funext fun a => by fin_cases a <;> rfl
@[inherit_doc zeros2] theorem zeros3 : (![0, 0, 0] : Fin 3 → Nat) = fun _ => 0 := funext fun a => by fin_cases a <;> rfl
@[inherit_doc zeros2] theorem zeros4 : (![0, 0, 0, 0] : Fin 4 → Nat) = fun _ => 0 := funext fun a => by fin_cases a <;> rfl

/-- The output block after the body, as a function of the mask block, the image block and the weights. -/
theorem block_eq (c : Dev nD) (i : grid0.Coords)
    (a2 : Memref sig .tc .vmem S1x196x224x224 .i8) (h2 : a2.IsWhole) (a3 : Memref sig .tc .vmem S1x3x224x224 .f32) (h3 : a3.IsWhole)
    (a4 : Memref sig .tc .vmem S4x56 .f32) (h4 : a4.IsWhole) (a5 : Memref sig .tc .vmem S1x196x56 .f32) (h5 : a5.IsWhole)
    (a6 : Memref sig .tc .vmem S196x4 .f32) (h6 : a6.IsWhole) (hc0 : cond0_0 i) (hc1 : cond0_1 i)
    (x0 : Vec F S1x196x224x224 .i8) (x1 : Vec F S1x3x224x224 .f32) (x2 : Vec F S4x56 .f32) :
    out0_A_3 c i a2 h2 a3 h3 a4 h4 a5 h5 a6 h6 hc0 hc1 x0 x1 x2 = k0_pay3 (k0_pay2 x0 x1 k0_pay1) x2 := by
  unfold out0_A_3
  rw [View.read_writes_eq_canon _ _ _ (cover0_A_3 c i a2 h2 a3 h3 a4 h4 a5 h5 a6 h6 hc0 hc1 x0 x1 x2)]
  unfold kernelRun0_A
  dsimp only
  sl_unfold_words
  rw [View.canon_unit_zero (S := S1x196x56) zeros3]
  simp only [View.readCov_unit_zero (S := S196x4) _ zeros2,  View.readAt_eq_ld, h2.read_unread, h3.read_unread, h4.read_unread,
    View.ld_unit_zero (S := S1x196x224x224) zeros4, View.ld_unit_zero (S := S1x3x224x224) zeros4, View.ld_unit_zero (S := S4x56) zeros2]
  exact congrArg (k0_pay3 · x2) (View.readCov_cons_unit_lit' (S := S196x4) _ _ _ _ _ (congrFun zeros2) (congrFun zeros2))

end Cert.KernelIdeal.Means

end
-- ==== Proof.BlockValue.lean ====
/-
  ONE BLOCK OF THE RESULT, ENTRY BY ENTRY, over the extended reals: entry (s, o) of the block is the quotient of
  `∑ k, acc s k * wf k o` by `acc s 3`, `acc s k` the sum over the pixels of the mask times row `k` of the image
  (rows 0, 1, 2: the channels; row 3: ones).
-/
module

public import proofs.«01_k».proof.Proof.Block
public import Idealize.ShloMosaic.Lib.Pointwise

@[expose] public section

noncomputable section

namespace Cert.KernelIdeal.Means

open Cert.KernelIdeal Cert.KernelIdeal.Gen Idealize.ShloMosaic

/-- The quotient the body ends with, at entry (s, o) of the block. -/
theorem pay3_at (a : FVec Ideal S196x4 .f32) (w : FVec Ideal S4x56 .f32) (s : Fin 196) (o : Fin 56) :
    k0_pay3 (F := Ideal) a w (ix3 0 s o) = Ideal.div (∑ k : Fin 4, a (ix2 s k) * w (ix2 k o)) (a (ix2 s 3)) := by
  pointwise [k0_pay3]

/-- The image block with a row of ones under its three channels, each row the pixels in reading order. -/
def rows (x1 : FVec Ideal S1x3x224x224 .f32) : FVec Ideal S4x50176 .f32 :=
  concatenate S4x50176 0 [⟨S3x50176, shapeCast S3x50176 (shapeCast S3x224x224 x1 shapeCasts_S1x3x224x224_S3x224x224) shapeCasts_S3x224x224_S3x50176⟩,
    ⟨S1x50176, broadcast S1x50176 (Scalar.ofBits .f32 0x3F800000#32)⟩] concatenates_S3x50176_S1x50176_S4x50176_d0

/-- The accumulator after the body: masks times rows, summed over the pixels. -/
theorem pay2_at (x0 : IVec S1x196x224x224 8) (x1 : FVec Ideal S1x3x224x224 .f32) (s : Fin 196) (k : Fin 4) :
    k0_pay2 (F := Ideal) x0 x1 (k0_pay1 (F := Ideal)) (ix2 s k)
      = ∑ p : Fin 50176, (((x0 (ix4 0 s ⟨p.val / 224, by omega⟩ ⟨p.val % 224, by omega⟩)).toNat : ℝ) : EReal) * rows x1 (ix2 k p) := by
  show addf (k0_pay1 (F := Ideal)) (matmul dot_S196x50176_S4x50176_S196x4_1_1_0_0_n_n none (uitofp .f32 (shapeCast S196x50176 (shapeCast S196x224x224 x0 shapeCasts_S1x196x224x224_S196x224x224) shapeCasts_S196x224x224_S196x50176)) (rows x1) (constant S196x4 .f32 0x00000000#32)) _ = _
  generalize rows x1 = r
  pointwise [k0_pay1]
  rfl

/-- The first three rows are the channels. -/
theorem rows_chan (x1 : FVec Ideal S1x3x224x224 .f32) (k : Fin 3) (p : Fin 50176) :
    rows x1 (ix2 k.castSucc p) = x1 (ix4 0 k ⟨p.val / 224, by omega⟩ ⟨p.val % 224, by omega⟩) := by
  pointwise [rows]
  exact dif_pos k.isLt

/-- The last row is ones. -/
theorem rows_ones (x1 : FVec Ideal S1x3x224x224 .f32) (p : Fin 50176) : rows x1 (ix2 3 p) = 1 := by
  pointwise [rows]

end Cert.KernelIdeal.Means

end
-- ==== Proof.RefValue.lean ====
/-
  THE REFERENCE'S RESULT, ENTRY BY ENTRY, over the extended reals.
-/
module

public import proofs.«01_k».proof.Proof.Gen.ReferenceIdeal.Run
public import Idealize.ShloMosaic.Lib.Pointwise

@[expose] public section

noncomputable section

namespace Cert.ReferenceIdeal.Means

open Cert.ReferenceIdeal Cert.ReferenceIdeal.Gen Idealize.ShloMosaic

/-- The reference's result as a function of its arguments: the composed term its run ends with. -/
def out (x : FVec Ideal S4x3x224x224 .f32) (y : IVec S4x196x224x224 1) (w : FVec Ideal S56x3 .f32) (b : FVec Ideal S56 .f32) : FVec Ideal S4x196x56 .f32 :=
  Host.divf (Host.dotGeneral dot_S4x196x224x224_S4x56x224x224_S4x196x56_23_23_1_1_0_0 none (uitofp .f32 y) (addf (transpose S4x56x224x224 [1, 0, 2, 3] (Host.dotGeneral dot_S56x3_S4x3x224x224_S56x4x224x224_1_1_0_023_n_n none w x) transposes_S56x4x224x224_S4x56x224x224_1_0_2_3) (broadcastInDim S4x56x224x224 ![0, 1, 2, 3] bcast_S1x56x1x1_S4x56x224x224_0_1_2_3 (broadcastInDim S1x56x1x1 ![1] bcast_S56_S1x56x1x1_1 b)))) (broadcastInDim S4x196x56 ![0, 1, 2] bcast_S4x196x1_S4x196x56_0_1_2 (broadcastInDim S4x196x1 ![0, 1] bcast_S4x196_S4x196x1_0_1 (Host.reduceAdd (uitofp .f32 y) (constant S_ .f32 0x00000000#32) reducesTo_S4x196x224x224_S4x196_d2_3 h_S_)))

/-- Entry (n, s, o): the sum over the mask's pixels of the projected, shifted pixel, over the number of those pixels. -/
theorem out_at (x : FVec Ideal S4x3x224x224 .f32) (y : IVec S4x196x224x224 1) (w : FVec Ideal S56x3 .f32) (b : FVec Ideal S56 .f32)
    (n : Fin 4) (s : Fin 196) (o : Fin 56) :
    out x y w b (ix3 n s o) = Ideal.div
      (∑ i : Fin 224, ∑ j : Fin 224, (((y (ix4 n s i j)).toNat : ℝ) : EReal) * ((∑ k : Fin 3, w (ix2 o k) * x (ix4 n k i j)) + b (ix1 o)))
      (∑ i : Fin 224, ∑ j : Fin 224, (((y (ix4 n s i j)).toNat : ℝ) : EReal)) := by
  pointwise [out]
  rfl

end Cert.ReferenceIdeal.Means

end
-- ==== Proof.Entry.lean ====
/-
  ONE ENTRY OF THE RESULT, KERNEL AGAINST REFERENCE. The block the body leaves at entry (s, o), the input blocks being
  image `n` and its masks, is the reference's entry (n, s, o), where image and weights are real.
-/
module

public import proofs.«01_k».proof.Proof.Algebra
public import proofs.«01_k».proof.Proof.BlockValue
public import proofs.«01_k».proof.Proof.RefValue

@[expose] public section

noncomputable section

namespace Cert.Means

open Idealize.ShloMosaic Cert.KernelIdeal Cert.KernelIdeal.Gen Cert.KernelIdeal.Means

/-- The masked sums in the accumulator's four columns, as sums over rows and columns of the image. -/
theorem acc_chan (x0 : IVec S1x196x224x224 8) (x1 : FVec Ideal S1x3x224x224 .f32) (s : Fin 196) (k : Fin 3) :
    k0_pay2 (F := Ideal) x0 x1 (k0_pay1 (F := Ideal)) (ix2 s k.castSucc)
      = ∑ i : Fin 224, ∑ j : Fin 224, (((x0 (ix4 0 s i j)).toNat : ℝ) : EReal) * x1 (ix4 0 k i j) := by
  rw [pay2_at]
  simp only [rows_chan]
  exact sum_pixels fun i j => (((x0 (ix4 0 s i j)).toNat : ℝ) : EReal) * x1 (ix4 0 k i j)

/-- The last column counts the mask's pixels. -/
theorem acc_count (x0 : IVec S1x196x224x224 8) (x1 : FVec Ideal S1x3x224x224 .f32) (s : Fin 196) :
    k0_pay2 (F := Ideal) x0 x1 (k0_pay1 (F := Ideal)) (ix2 s 3)
      = ∑ i : Fin 224, ∑ j : Fin 224, (((x0 (ix4 0 s i j)).toNat : ℝ) : EReal) := by
  rw [pay2_at]
  simp only [rows_ones, mul_one]
  exact sum_pixels fun i j => (((x0 (ix4 0 s i j)).toNat : ℝ) : EReal)

/-- The body's entry (s, o) on image `n` is the reference's entry (n, s, o). -/
theorem entry_eq (x : FVec Ideal S4x3x224x224 .f32) (y : IVec S4x196x224x224 1) (w : FVec Ideal S56x3 .f32) (b : FVec Ideal S56 .f32)
    (hx : ∀ i, ∃ r : ℝ, x i = r) (hw : ∀ i, ∃ r : ℝ, w i = r) (n : Fin 4)
    (x0 : IVec S1x196x224x224 8) (x1 : FVec Ideal S1x3x224x224 .f32) (x2 : FVec Ideal S4x56 .f32)
    (h0 : ∀ s i j, (x0 (ix4 0 s i j)).toNat = (y (ix4 n s i j)).toNat) (h1 : ∀ k i j, x1 (ix4 0 k i j) = x (ix4 n k i j))
    (h2 : ∀ (k : Fin 3) o, x2 (ix2 k.castSucc o) = w (ix2 o k)) (h3 : ∀ o, x2 (ix2 3 o) = b (ix1 o)) (s : Fin 196) (o : Fin 56) :
    k0_pay3 (F := Ideal) (k0_pay2 (F := Ideal) x0 x1 (k0_pay1 (F := Ideal))) x2 (ix3 0 s o)
      = Cert.ReferenceIdeal.Means.out x y w b (ix3 n s o) := by
  choose xr hxr using hx
  choose wr hwr using hw
  rw [pay3_at, Cert.ReferenceIdeal.Means.out_at, acc_count, Fin.sum_univ_castSucc]
  simp only [acc_chan, h0, h1, h2, hxr, hwr]
  rw [show Fin.last 3 = (3 : Fin 4) from rfl, acc_count, h3]
  simp only [h0, ← Fintype.sum_prod_type']
  refine congrArg₂ Ideal.div ?_ (Eq.refl _)
  exact (project_sum Finset.univ (fun p : Fin 224 × Fin 224 => (y (ix4 n s p.1 p.2)).toNat) (fun k p => xr (ix4 n k p.1 p.2))
    (fun k => wr (ix2 o k)) (b (ix1 o))).symm

end Cert.Means

end
-- ==== Proof.Final.lean ====
/-
  THE RESULT ARRAY AFTER THE RUN. Grid point `t` reads image `t`, its masks and the weights with the bias under them, and
  writes back block `t`; the four blocks tile the result. So the array is the reference's, where image and weights are real.
-/
module

public import proofs.«01_k».proof.Proof.Entry
public import Idealize.ShloMosaic.Lib.Pipeline.ValueKit
public import Idealize.ShloMosaic.Lib.StableHlo.Run

@[expose] public section

set_option maxRecDepth 16384

noncomputable section

namespace Cert.KernelIdeal.Means

open Cert.KernelIdeal Cert.KernelIdeal.Gen Idealize.ShloMosaic Idealize.ShloMosaic.TcCoe Idealize.SL.Sem

section
variable {F : FTy → Type} [FloatOps F]
variable (m : (ℓ : Loc nD τ sig) → Buf (Elt F) ℓ)

/-- What the region finds in the mask array: the masks as bytes. -/
theorem V_masks (c : Dev nD) : V m c main_v3 = (extui 8 (m ((c : Thread nD τ).loc main_arg1)) natLt_1_8 : IVec S4x196x224x224 8) := by
  unfold V
  after_results

/-- What the region finds in the weight array: the weights transposed, the bias under them. -/
theorem V_weights (c : Dev nD) : V m c main_v2 = (concatenate S4x56 0 [⟨S3x56, transpose S3x56 [1, 0] (m ((c : Thread nD τ).loc main_arg2)) transposes_S56x3_S3x56_1_0⟩,
    ⟨S1x56, broadcastInDim S1x56 ![1] bcast_S56_S1x56_1 (m ((c : Thread nD τ).loc main_arg3))⟩] concatenates_S3x56_S1x56_S4x56_d0 : FVec F S4x56 .f32) := by
  unfold V
  after_results

/-- The block each window has at a grid point. -/
theorem index0 : ∀ t : Fin grid0.N, win0_0.index t = ![t.val, 0, 0, 0] ∧ win0_1.index t = ![t.val, 0, 0, 0]
    ∧ win0_2.index t = ![0, 0] ∧ win0_3.index t = ![t.val, 0, 0] := by decide +kernel

/-- A grid point as an image number. -/
def img (t : Fin cfg0.N) : Fin 4 := ⟨t.val, N_0 ▸ t.isLt⟩

/-- Point `t`'s mask block. -/
theorem masks_at (c : Dev nD) (t : Fin cfg0.N) (s : Fin 196) (i j : Fin 224) :
    (iblk m c 0 t : IVec S1x196x224x224 8) (ix4 0 s i j) = (V m c main_v3 : IVec S4x196x224x224 8) (ix4 (img t) s i j) := by
  blk_ext [iblk, img, index0 t]

/-- Point `t`'s image block. -/
theorem image_at (c : Dev nD) (t : Fin cfg0.N) (k : Fin 3) (i j : Fin 224) :
    (iblk m c 1 t : FVec F S1x3x224x224 .f32) (ix4 0 k i j) = (m ((c : Thread nD τ).loc main_arg0) : FVec F S4x3x224x224 .f32) (ix4 (img t) k i j) := by
  rw [← V_main_arg0 m c]
  blk_ext [iblk, img, index0 t]

/-- Point `t`'s weight block: the whole weight array. -/
theorem weights_at (c : Dev nD) (t : Fin cfg0.N) (k : Fin 4) (o : Fin 56) :
    (iblk m c 2 t : FVec F S4x56 .f32) (ix2 k o) = (V m c main_v2 : FVec F S4x56 .f32) (ix2 k o) := by
  blk_ext [iblk, index0 t]

end

variable (m : (ℓ : Loc nD τ sig) → Buf (Elt Ideal) ℓ)

/-- The result array after the run is the reference's result. -/
theorem final (c : Dev nD) (hx : ∀ i, ∃ r : ℝ, (m ((c : Thread nD τ).loc main_arg0) : S4x3x224x224.Idx → EReal) i = (r : EReal))
    (hw : ∀ i, ∃ r : ℝ, (m ((c : Thread nD τ).loc main_arg2) : S56x3.Idx → EReal) i = (r : EReal)) :
    (dats m 0 c).arrAt 3 cfg0.N = Cert.ReferenceIdeal.Means.out (m ((c : Thread nD τ).loc main_arg0)) (m ((c : Thread nD τ).loc main_arg1))
      (m ((c : Thread nD τ).loc main_arg2)) (m ((c : Thread nD τ).loc main_arg3)) := by
  refine (dats m 0 c).arrAt_eq_of_covers 3 _ (by decide +kernel) fun t hf y => ?_
  have he := Cert.Means.entry_eq (m ((c : Thread nD τ).loc main_arg0)) (m ((c : Thread nD τ).loc main_arg1))
      (m ((c : Thread nD τ).loc main_arg2)) (m ((c : Thread nD τ).loc main_arg3)) hx hw (img t) (iblk m c 0 t) (iblk m c 1 t) (iblk m c 2 t)
      (fun s i j => by rw [masks_at, V_masks]; exact BitVec.toNat_setWidth_of_le (by decide)) (fun k i j => image_at m c t k i j)
      (fun k o => by rw [weights_at, V_weights]; pointwise; exact dif_pos k.isLt)
      (fun o => by rw [weights_at, V_weights]; pointwise)
  rw [after0_3]
  unfold outsAt0
  rw [block_eq]
  have hb : (y 0 : ℕ) < 1 ∧ (y 1 : ℕ) < 196 ∧ (y 2 : ℕ) < 56 := by
    idx_bounds y
    exact ⟨hb0, hb1, hb2⟩
  have e1 : (cfg0.win 3).xinj (cfg0.grid.coords t) y = ix3 0 ⟨(y 1 : ℕ), hb.2.1⟩ ⟨(y 2 : ℕ), hb.2.2⟩ := by
    blk_ext [index0 t]
  have e2 : ((cfg0.win 3).blk t).view.emb y = ix3 (img t) ⟨(y 1 : ℕ), hb.2.1⟩ ⟨(y 2 : ℕ), hb.2.2⟩ := by
    blk_ext [img, index0 t]
  generalize k0_pay3 (F := Ideal) (k0_pay2 (F := Ideal) (iblk m c 0 t) (iblk m c 1 t) (k0_pay1 (F := Ideal))) (iblk m c 2 t) = p at he ⊢
  generalize Cert.ReferenceIdeal.Means.out _ _ _ _ = q at he ⊢
  rw [cast_eq]
  exact (congrArg p e1).trans ((he _ _).trans (congrArg q e2).symm)

end Cert.KernelIdeal.Means

end
-- ==== Proof.lean ====
/-
  The proof of `Cert.Claim` (proofs.«01_k».proof.Defs). The frames and runs come from the generated modules; the value claim
  sets the kernel's result array (Proof/Final.lean) beside the reference's composed term.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Precond
public import proofs.«01_k».proof.Proof.Final
public import Idealize.ShloMosaic.Lib.Quiescent
public import Idealize.ShloMosaic.Adequacy
public import Idealize.ShloMosaic.Init

@[expose] public section

noncomputable section

namespace Cert.Proof

open Idealize.ShloMosaic Idealize.SL.Sem

/-- The reference runs from any memory, leaves its arguments as they were, and ends with every semaphore at zero. -/
theorem quiescent_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, Idealize.ShloMosaic.sem_eq_zero_of_no_sems (by decide) r.2⟩)
    (Cert.ReferenceIdeal.Value.run (F := Ideal) m g)

/-- From memories that agree on the arguments, image and weights real, kernel and reference end with one result. -/
theorem algebraic : Cert.algebraic_KernelIdeal_ReferenceIdeal_pre_finite := by
  intro m g m' g' hpre hagree
  refine ⟨fun c => Cert.ReferenceIdeal.Means.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run _ _ _).mono (fun r h c => ⟨(h c).1.trans ?_, (h c).2⟩) (Cert.KernelIdeal.Value.run_blocks (F := Ideal) m g)
    have hr := Cert.Pre_finite.Means.fn_real _ _ _ _ (hpre c)
    exact Cert.KernelIdeal.Means.final m c hr.1 hr.2
  · refine (θ_run _ _ _).mono (fun r h c => ⟨(h c).1.trans ?_, (h c).2⟩) (Cert.ReferenceIdeal.Value.run (F := Ideal) m' g')
    obtain ⟨h0, h1, h2, h3⟩ := hagree c
    rw [h0, h1, h2, h3]
    rfl

/-- Every claim of the certificate. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g,
    fun m g _ => Cert.KernelIdeal.Gen.frame m g,
    fun m g _ => Cert.KernelIdeal.Gen.frame m g,
    fun m g _ => quiescent_reference m g,
    fun m g _ => quiescent_reference m g,
    trivial,
    algebraic⟩

end Cert.Proof

end
